-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S208x1x512 : Shape := ⟨3, ![208, 1, 512]⟩
abbrev S106496x1000 : Shape := ⟨2, ![106496, 1000]⟩
abbrev S1x1x512 : Shape := ⟨3, ![1, 1, 512]⟩
abbrev S512x1000 : Shape := ⟨2, ![512, 1000]⟩
abbrev S512 : Shape := ⟨1, ![512]⟩
abbrev S512x1 : Shape := ⟨2, ![512, 1]⟩
abbrev S4096x26x1000 : Shape := ⟨3, ![4096, 26, 1000]⟩

abbrev nBuf : Space → Nat
  | .hbm => 4
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S208x1x512, .i32⟩
  | .hbm, ⟨2, _⟩ => ⟨S106496x1000, .f32⟩
  | .hbm, ⟨3, _⟩ => ⟨S4096x26x1000, .f32⟩
  | .local _ .vmem, ⟨0, _⟩ => ⟨S1x1x512, .i32⟩
  | .local _ .vmem, ⟨1, _⟩ => ⟨S1x1x512, .i32⟩
  | .local _ .vmem, ⟨2, _⟩ => ⟨S512x1000, .f32⟩
  | .local _ .vmem, ⟨3, _⟩ => ⟨S512x1000, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![208], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.OneHot.lean ====
/- The mathematics of the one-hot encoding, with no program in sight: what a block of the kernel computes at an
   index, how the host's two reshapes move an index, what the reference computes at an index, and the two
   conversions of a truth value to a float. -/
module

public import Idealize.ShloMosaic.Lib.Pipeline.Value
public import Idealize.ShloMosaic.Lib.ValueIdxCore
public import Idealize.ShloMosaic.PureOps.BitExact
public import Idealize.ShloMosaic.PureOps.Ideal

@[expose] public section

set_option maxRecDepth 16384

noncomputable section

namespace Cert.OneHot

open Idealize.ShloMosaic Idealize.ShloMosaic.ValueIdx

variable {F : FTy → Type} [FloatOps F]

/-- The table of class indices. -/
abbrev Table : Shape := ⟨2, ![4096, 26]⟩
/-- The table cut into 208 blocks of 512 indices, as the kernel streams it. -/
abbrev Blocks : Shape := ⟨3, ![208, 1, 512]⟩
/-- One such block. -/
abbrev Block : Shape := ⟨3, ![1, 1, 512]⟩
/-- The kernel's output, one row of 1000 classes per table entry, -/
abbrev Rows : Shape := ⟨2, ![106496, 1000]⟩
/-- the 512 rows of one block of it, -/
abbrev Tile : Shape := ⟨2, ![512, 1000]⟩
/-- and the result as @main returns it. -/
abbrev Result : Shape := ⟨3, ![4096, 26, 1000]⟩

/-- The kernel's value for index `x` and class `c`: the comparison's truth value, widened to a word and converted
    as a signed integer. -/
def mark (x : BitVec 32) (c : Nat) : F .f32 :=
  FloatOps.sitofp .f32 ((IntOp.cmpi .eq x (BitVec.ofNat 32 c)).setWidth 32)

/-- Where row `r` of the flattened table stands in the table. -/
def place (r : Nat) (hr : r < 106496) : Table.Idx :=
  ix2 ⟨r / 26, by omega⟩ ⟨r % 26, by omega⟩

/-- The one-hot rows of the flattened table. -/
def rows (X : Table.Idx → BitVec 32) : Rows.Idx → F .f32 := fun i =>
  mark (X (place (i 0).val (i 0).isLt)) (i 1).val

/-- The one-hot encoding of the table. -/
def hot (X : Table.Idx → BitVec 32) : Result.Idx → F .f32 := fun i =>
  mark (X (ix2 (i 0) (i 1))) (i 2).val

/-- The kernel body's arithmetic on a block of indices, read at row `r` and class `c` of its tile. -/
theorem tile_apply (x : Block.Idx → BitVec 32) (h1 : Block.ShapeCasts ⟨1, ![512]⟩)
    (h2 : Shape.ShapeCasts ⟨1, ![512]⟩ ⟨2, ![512, 1]⟩) (h3 : Shape.Broadcasts ⟨2, ![512, 1]⟩ Tile)
    (h4 : Tile.Iotas .tc 32 [1]) (h5 : 1 < 32) (r : Fin 512) (c : Fin 1000) :
    sitofp (F := F) .f32 (extui 32 (cmpi .eq
      (broadcastTo Tile (shapeCast ⟨2, ![512, 1]⟩ (shapeCast ⟨1, ![512]⟩ x h1) h2) h3)
      (iota .tc Tile 32 [1] h4)) h5) (ix2 r c) = mark (x (ix3 0 0 r)) c.val := by
  have hb : broadcastTo Tile (shapeCast ⟨2, ![512, 1]⟩ (shapeCast ⟨1, ![512]⟩ x h1) h2) h3 (ix2 r c)
      = x (ix3 0 0 r) := by
    rw [broadcastTo_apply _ h3 (ix2 r c) (ix2 r (0 : Fin 1)) (by
      intro a
      match a with
      | ⟨0, _⟩ => rfl
      | ⟨1, _⟩ => rfl)]
    rw [shapeCast_apply _ h2 (ix2 r (0 : Fin 1)) (ix1 r) (by
      rw [Shape.rowMajor_val_one, Shape.rowMajor_val_two]
      show r.val = r.val * 1 + 0
      omega)]
    exact shapeCast_apply _ h1 (ix1 r) (ix3 0 0 r) (by
      rw [Shape.rowMajor_val_one, Shape.rowMajor_val_three]
      show (0 * 1 + 0) * 512 + r.val = r.val
      omega)
  have hi : iota .tc Tile 32 [1] h4 (ix2 r c) = BitVec.ofNat 32 c.val :=
    iota_single_apply .tc Tile 32 1 h4 (ix2 r c)
  show FloatOps.sitofp .f32 ((IntOp.cmpi .eq _ _).setWidth 32) = _
  rw [hb, hi]
  rfl

/-- The reshape into blocks: entry `j` of block `t` is the table at row `512 t + j` of the flattened table. -/
theorem blocks_apply (X : Table.Idx → BitVec 32) (h : Table.ShapeCasts Blocks) (i : Blocks.Idx) (r : Nat)
    (hr : r < 106496) (e : (i 0).val * 512 + (i 2).val = r) :
    shapeCast Blocks X h i = X (place r hr) := by
  refine shapeCast_apply _ h i (place r hr) ?_
  rw [Shape.rowMajor_val_two, Shape.rowMajor_val_three]
  have h1 : (i 1).val < 1 := (i 1).isLt
  show r / 26 * 26 + r % 26 = ((i 0).val * 1 + (i 1).val) * 512 + (i 2).val
  omega

/-- The reshape of the rows into the result carries the rows' one-hot encoding to the table's. -/
theorem shapeCast_rows (X : Table.Idx → BitVec 32) (h : Rows.ShapeCasts Result) :
    shapeCast Result (rows (F := F) X) h = hot X := by
  funext i
  have h0 : (i 0).val < 4096 := (i 0).isLt
  have h1 : (i 1).val < 26 := (i 1).isLt
  have hr : (i 0).val * 26 + (i 1).val < 106496 := by omega
  rw [shapeCast_apply _ h i (ix2 (⟨(i 0).val * 26 + (i 1).val, hr⟩ : Fin 106496) (i 2)) (by
    rw [Shape.rowMajor_val_two, Shape.rowMajor_val_three]; rfl)]
  show mark (X (place ((i 0).val * 26 + (i 1).val) hr)) (i 2).val = mark (X (ix2 (i 0) (i 1))) (i 2).val
  congr 2
  funext a
  apply Fin.ext
  match a with
  | ⟨0, _⟩ => show ((i 0).val * 26 + (i 1).val) / 26 = (i 0).val; omega
  | ⟨1, _⟩ => show ((i 0).val * 26 + (i 1).val) % 26 = (i 1).val; omega

/-- The reference's composed term is the one-hot encoding, wherever converting a truth value as an unsigned bit is
    the same as widening it to a word and converting that as a signed integer. -/
theorem reference_eq (hc : ∀ b : BitVec 1, FloatOps.sitofp (F := F) .f32 (b.setWidth 32) = FloatOps.uitofp .f32 b)
    (X : Table.Idx → BitVec 32)
    (h1 : Table.BroadcastsInDim ⟨3, ![4096, 26, 1]⟩ ![0, 1])
    (h2 : Shape.BroadcastsInDim ⟨3, ![4096, 26, 1]⟩ Result ![0, 1, 2])
    (h3 : Shape.BroadcastsInDim ⟨3, ![1, 1, 1000]⟩ Result ![0, 1, 2]) :
    uitofp (F := F) .f32 (cmpi .eq
      (broadcastInDim Result ![0, 1, 2] h2 (broadcastInDim ⟨3, ![4096, 26, 1]⟩ ![0, 1] h1 X))
      (broadcastInDim Result ![0, 1, 2] h3 (iotaInDim ⟨3, ![1, 1, 1000]⟩ 32 2))) = hot X := by
  funext i
  refine Eq.trans ?_ (hc _).symm
  show FloatOps.uitofp .f32 (IntOp.cmpi .eq _ _) = FloatOps.uitofp .f32 (IntOp.cmpi .eq _ _)
  have ex : broadcastInDim Result ![0, 1, 2] h2 (broadcastInDim ⟨3, ![4096, 26, 1]⟩ ![0, 1] h1 X) i
      = X (ix2 (i 0) (i 1)) := by
    unfold broadcastInDim
    congr 1
    funext a
    match a with
    | ⟨0, _⟩ => rfl
    | ⟨1, _⟩ => rfl
  rw [ex]
  rfl

/-- At the bit patterns the two conversions of a truth value agree: both are the binary32 word of 0 or of 1. -/
theorem conv_bits (b : BitVec 1) :
    FloatOps.sitofp (F := Bits) .f32 (b.setWidth 32) = FloatOps.uitofp .f32 b := by
  have e : (b.setWidth 32).toInt = ((b.toNat : Nat) : Int) := by revert b; decide
  show Bits.sitofp32 _ = Bits.uitofp32 _
  unfold Bits.sitofp32 Bits.uitofp32
  rw [e]

/-- Over the extended reals they agree too: both are the number 0 or 1. -/
theorem conv_ideal (b : BitVec 1) :
    FloatOps.sitofp (F := Ideal) .f32 (b.setWidth 32) = FloatOps.uitofp .f32 b := by
  have e : (b.setWidth 32).toInt = ((b.toNat : Nat) : Int) := by revert b; decide
  show (((b.setWidth 32).toInt : ℝ) : EReal) = ((b.toNat : ℝ) : EReal)
  rw [e]; norm_cast

end Cert.OneHot

end
-- ==== Proof.KernelIdealRun.lean ====
/- What the idealized kernel `KernelIdeal` computes (`KernelRun.lean` says the same of `Kernel`): each grid point writes back its 512 one-hot rows, the 208
   points' blocks tile the output, and the closing reshape makes the rows the one-hot encoding of the table. -/
module

public import proofs.«01_k».proof.Proof.Gen.KernelIdeal.Frame
public import proofs.«01_k».proof.Proof.OneHot
public import Idealize.ShloMosaic.Lib.StableHlo.Run

@[expose] public section

set_option maxRecDepth 16384

noncomputable section

namespace Cert.KernelIdeal.OneHotRun

open Cert.KernelIdeal Cert.KernelIdeal.Gen Cert.OneHot
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- Device `c`'s table of class indices, as launched. -/
abbrev table (c : Dev nD) : Table.Idx → BitVec 32 := m ((c : Thread nD τ).loc main_arg0)

theorem zero3 : (![0, 0, 0] : Fin 3 → Nat) = fun _ => 0 := funext fun a => by fin_cases a <;> rfl
theorem zero2 : (![0, 0] : Fin 2 → Nat) = fun _ => 0 := funext fun a => by fin_cases a <;> rfl

/-- The two index maps at every grid point: point `t` reads block `t` and writes the rows from `512 t` on. -/
theorem index_facts : ∀ t : Fin cfg0.N,
    (win0_0.index t 0 * win0_0.size 0 = t.val ∧ win0_0.index t 1 * win0_0.size 1 = 0
      ∧ win0_0.index t 2 * win0_0.size 2 = 0)
    ∧ win0_1.index t 0 * win0_1.size 0 = t.val * 512 ∧ win0_1.index t 1 * win0_1.size 1 = 0 :=
  (by decide +kernel : ∀ t : Fin grid0.N, _)

/-- The region finds the input array at the table cut into blocks. -/
theorem entry_blocks (c : Dev nD) :
    V m c main_v0 = shapeCast Blocks (table m c) shapeCasts_S4096x26_S208x1x512 := by
  show StableHlo.after [_] _ _ = _
  after_results
  rfl

/-- Entry `r` of the block that point `t` reads is the table's index at row `512 t + r`. -/
theorem block_apply (c : Dev nD) (t : Fin cfg0.N) (r : Fin 512) (q : Nat) (hq : q < 106496)
    (e : t.val * 512 + r.val = q) :
    iblk m c 0 t (ix3 0 0 r) = table m c (place q hq) := by
  obtain ⟨⟨e0, e1, e2⟩, -⟩ := index_facts t
  show V m c main_v0 ((win0_0.rect t).emb (ix3 0 0 r)) = _
  rw [entry_blocks]
  refine blocks_apply _ _ _ q hq ?_
  show (win0_0.index t 0 * win0_0.size 0 + 1 * 0) * 512 + (win0_0.index t 2 * win0_0.size 2 + 1 * r.val) = q
  rw [e0, e2]
  omega

/-- What point `t` writes back is its block of the one-hot rows. -/
theorem flushed_eq (c : Dev nD) (t : Fin cfg0.N) :
    (dats m 0 c).flushed 1 t = ((cfg0.win 1).blk t).view.read (Elt F) (rows (F := F) (table m c)) := by
  show (cfg0.win 1).cut (grid0.coords t) ((dats m 0 c).after 1 t) = _
  rw [after0_1]
  unfold out0_1
  rw [View.canon_unit_zero zero2, View.ld_unit_zero zero3]
  obtain ⟨-, e0, e1⟩ := index_facts t
  have ht : t.val < 208 := lt_of_lt_of_eq t.isLt N_0
  funext j
  obtain ⟨r, k, rfl⟩ : ∃ (r : Fin 512) (k : Fin 1000), j = ix2 r k := ⟨j 0, j 1, eq_ix2 j⟩
  have hr := r.isLt
  have hq : t.val * 512 + r.val < 106496 := by omega
  refine (tile_apply (F := F) (iblk m c 0 t) _ _ _ _ _ r k).trans ?_
  rw [block_apply m c t r _ hq rfl]
  show _ = rows (F := F) (table m c) ((win0_1.rect t).emb (ix2 r k))
  have hi : (win0_1.rect t).emb (ix2 r k) = (ix2 ⟨t.val * 512 + r.val, hq⟩ k : Rows.Idx) := by
    funext a
    apply Fin.ext
    match a with
    | ⟨0, _⟩ => show win0_1.index t 0 * win0_1.size 0 + 1 * r.val = t.val * 512 + r.val; rw [e0]; omega
    | ⟨1, _⟩ => show win0_1.index t 1 * win0_1.size 1 + 1 * k.val = k.val; rw [e1]; omega
  rw [hi]
  rfl

/-- Point `t`'s block of the output is the rows from `512 t` to `512 t + 511`. -/
theorem mem_blk (t : Fin cfg0.N) (i : S106496x1000.Idx) :
    i ∈ ((cfg0.win 1).blk t).view.set ↔ t.val * 512 ≤ (i 0 : Nat) ∧ (i 0 : Nat) < t.val * 512 + 512 := by
  show i ∈ ((View.whole main_v1).slice (win0_1.rect t)).set ↔ _
  rw [View.set_slice_whole, Rect.mem_set_unit]
  have h1 : (i 1 : Nat) < 1000 := (i 1).isLt
  obtain ⟨-, e0, e1⟩ := index_facts t
  constructor
  · intro h
    have h0 : win0_1.index t 0 * win0_1.size 0 ≤ (i 0 : Nat) ∧ (i 0 : Nat) < win0_1.index t 0 * win0_1.size 0 + 512 := h 0
    rw [e0] at h0
    exact h0
  · intro h a
    match a with
    | ⟨0, _⟩ =>
      show win0_1.index t 0 * win0_1.size 0 ≤ (i 0 : Nat) ∧ (i 0 : Nat) < win0_1.index t 0 * win0_1.size 0 + 512
      rw [e0]; exact h
    | ⟨1, _⟩ =>
      show win0_1.index t 1 * win0_1.size 1 ≤ (i 1 : Nat) ∧ (i 1 : Nat) < win0_1.index t 1 * win0_1.size 1 + 1000
      rw [e1]; omega

/-- Every row is in the block of the point that its number divided by 512 names. -/
theorem cover (i : S106496x1000.Idx) :
    ∃ t : Fin cfg0.N, (cfg0.win 1).flush t = true ∧ i ∈ ((cfg0.win 1).blk t).view.set := by
  have h0 : (i 0 : Nat) < 106496 := (i 0).isLt
  refine ⟨⟨(i 0 : Nat) / 512, by show _ < grid0.N; rw [N_0]; omega⟩, flush0_1 _, ?_⟩
  rw [mem_blk]
  dsimp only
  omega

/-- So the output array of the region ends at the one-hot rows. -/
theorem final_rows (c : Dev nD) : (dats m 0 c).arrAt 1 cfg0.N = rows (F := F) (table m c) :=
  (dats m 0 c).arrAt_eq_of_cover 1 (rows (F := F) (table m c)) (fun t _ => flushed_eq m c t) cover

/-- The line after the region leaves the result at the one-hot encoding of the table. -/
theorem result_eq (c : Dev nD) :
    Pipeline.afterTail₀ cfgs (dats m) 0 (V0 m) [hostOps1] c main_v2 = hot (F := F) (table m c) := by
  have hr : Pipeline.withArrays (cfgs 0).spec c (V0 m c) (fun w => (dats m 0 c).arrAt w (cfgs 0).N)
      (Proc.devRef .tc main_v1) = rows (F := F) (table m c) :=
    (Pipeline.withArrays_arr spec0 launch0.win.arr_inj c (V0 m c) _ 1).trans (final_rows m c)
  unfold Pipeline.afterTail₀
  show StableHlo.after [_] _ _ = _
  after_results
  rw [hr]
  exact shapeCast_rows (table m c) _

/-- The run: every weakly fair execution terminates with the result at the one-hot encoding of the table, the table
    unchanged. -/
theorem run : θ_run defs (onTc (τ := τ) (main (F := F))) ⟨m, fun _ => 0, ρ⟩ fun r => ∀ c : Dev nD,
      r.2.mem ((c.tc : Thread nD τ).loc main_v2) = hot (F := F) (table m c)
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans
         (W_main_arg0 m (dats m) c)⟩)
    (run_main m ρ)

end Cert.KernelIdeal.OneHotRun

end
-- ==== Proof.lean ====
module

public import proofs.«01_k».proof.Defs
public import proofs.«01_k».proof.Proof.OneHot
public import proofs.«01_k».proof.Proof.KernelRun
public import proofs.«01_k».proof.Proof.KernelIdealRun
public import proofs.«01_k».proof.Proof.Gen.Reference.Run
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

/-- The kernel's frame. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The reference's frame: its run keeps the table, and it has no semaphore. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- The idealized reference's frame, likewise. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end with the same words: the one-hot encoding of the table at the bit patterns. -/
theorem bitexact : Cert.bitexact_Kernel_Reference := by
  intro m ρ m' ρ' _ hagree
  refine ⟨fun c => Cert.OneHot.hot (F := Bits) (Cert.Kernel.OneHotRun.table m c),
    Cert.Kernel.OneHotRun.run m ρ,
    (θ_run Cert.Reference.defs _ _).mono (fun r h c => ⟨(h c).1.trans ?_, (h c).2⟩)
      (Cert.Reference.Value.run (F := Bits) m' ρ')⟩
  rw [hagree c]
  exact Cert.OneHot.reference_eq Cert.OneHot.conv_bits (Cert.Kernel.OneHotRun.table m c) _ _ _

/-- Nothing was rewritten in the idealization. -/
theorem preserves : Cert.preserves_Kernel_KernelIdeal := trivial

/-- Kernel and reference compute the same function over the extended reals: the one-hot encoding of the table. -/
theorem algebraic : Cert.algebraic_KernelIdeal_ReferenceIdeal := by
  intro m ρ m' ρ' _ hagree
  refine ⟨fun c => Cert.OneHot.hot (F := Ideal) (Cert.KernelIdeal.OneHotRun.table m c),
    Cert.KernelIdeal.OneHotRun.run m ρ,
    (θ_run Cert.ReferenceIdeal.defs _ _).mono (fun r h c => ⟨(h c).1.trans ?_, (h c).2⟩)
      (Cert.ReferenceIdeal.Value.run (F := Ideal) m' ρ')⟩
  rw [hagree c]
  exact Cert.OneHot.reference_eq Cert.OneHot.conv_ideal (Cert.KernelIdeal.OneHotRun.table m c) _ _ _

/-- The whole claim. -/
theorem claim : Cert.Claim :=
  ⟨Cert.Kernel.Gen.facts, Cert.Reference.Gen.facts, Cert.KernelIdeal.Gen.facts, Cert.ReferenceIdeal.Gen.facts,
    frame_kernel, frame_reference, frame_kernelIdeal, frame_referenceIdeal, bitexact, preserves, algebraic⟩

end Cert.Proof

end
